-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gate_finite : Cert.Pre_gate_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
-- ==== Pre_gate_finite.lean ====
abbrev S2x2048x1024 : Shape := ⟨3, ![2, 2048, 1024]⟩
abbrev S1024x8 : Shape := ⟨2, ![1024, 8]⟩
abbrev S8 : Shape := ⟨1, ![8]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S2x2048x1024 .f32) (main_arg1 : FVec F S1024x8 .f32) (main_arg2 : FVec F S8 .f32) (main_arg3 : FVec F S1024x4096 .f32) (main_arg4 : FVec F S4096 .f32) (main_arg5 : FVec F S4096x1024 .f32) (main_arg6 : FVec F S1024 .f32) : IVec S2x2048x1024 1 × IVec S1024x8 1 × IVec S8 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2x2048x1024 : Shape := ⟨3, ![2, 2048, 1024]⟩
abbrev S1024x8 : Shape := ⟨2, ![1024, 8]⟩
abbrev S8 : Shape := ⟨1, ![8]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x8 : Shape := ⟨2, ![1, 8]⟩
abbrev S1x4096 : Shape := ⟨2, ![1, 4096]⟩
abbrev S1x1024 : Shape := ⟨2, ![1, 1024]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S512x4096 : Shape := ⟨2, ![512, 4096]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1x8, .f32⟩
  | .hbm, ⟨9, _⟩ => ⟨S1x4096, .f32⟩
  | .hbm, ⟨10, _⟩ => ⟨S1x1024, .f32⟩
  | .hbm, ⟨11, _⟩ => ⟨S4096x1024, .f32⟩
  | .hbm, ⟨12, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S1x8, .f32⟩
  | .local _ .vmem, ⟨4, _⟩ => ⟨S1024x4096, .f32⟩
  | .local _ .vmem, ⟨5, _⟩ => ⟨S1x4096, .f32⟩
  | .local _ .vmem, ⟨6, _⟩ => ⟨S4096x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x2048x1024 : Shape := ⟨3, ![2, 2048, 1024]⟩
abbrev S1024x8 : Shape := ⟨2, ![1024, 8]⟩
abbrev S8 : Shape := ⟨1, ![8]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4096x8 : Shape := ⟨2, ![4096, 8]⟩
abbrev S1x8 : Shape := ⟨2, ![1, 8]⟩
abbrev S4096x2 : Shape := ⟨2, ![4096, 2]⟩
abbrev S_ : Shape := ⟨0, ![]⟩
abbrev S4096x1 : Shape := ⟨2, ![4096, 1]⟩
abbrev S4096x2x1 : Shape := ⟨3, ![4096, 2, 1]⟩
abbrev S4096x2x2 : Shape := ⟨3, ![4096, 2, 2]⟩
abbrev S4096x4096 : Shape := ⟨2, ![4096, 4096]⟩
abbrev S1x4096 : Shape := ⟨2, ![1, 4096]⟩
abbrev S1x1024 : Shape := ⟨2, ![1, 1024]⟩
abbrev S4096x1x1024 : Shape := ⟨3, ![4096, 1, 1024]⟩
abbrev S4096x8x1024 : Shape := ⟨3, ![4096, 8, 1024]⟩
abbrev S4096x8x1 : Shape := ⟨3, ![4096, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x8, .f32⟩
  | .hbm, ⟨9, _⟩ => ⟨S1x8, .f32⟩
  | .hbm, ⟨10, _⟩ => ⟨S4096x8, .f32⟩
  | .hbm, ⟨11, _⟩ => ⟨S4096x8, .f32⟩
  | .hbm, ⟨12, _⟩ => ⟨S4096x2, .f32⟩
  | .hbm, ⟨13, _⟩ => ⟨S4096x2, .i32⟩
  | .hbm, ⟨14, _⟩ => ⟨S_, .f32⟩
  | .hbm, ⟨15, _⟩ => ⟨S4096x8, .f32⟩
  | .hbm, ⟨16, _⟩ => ⟨S4096, .i32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S_, .i32⟩
  | .hbm, ⟨26, _⟩ => ⟨S4096x2, .i32⟩
  | .hbm, ⟨27, _⟩ => ⟨S4096x2, .i1⟩
  | .hbm, ⟨28, _⟩ => ⟨S_, .i32⟩
  | .hbm, ⟨29, _⟩ => ⟨S4096x2, .i32⟩
  | .hbm, ⟨30, _⟩ => ⟨S4096x2, .i32⟩
  | .hbm, ⟨31, _⟩ => ⟨S4096x2, .i32⟩
  | .hbm, ⟨32, _⟩ => ⟨S4096x2, .i32⟩
  | .hbm, ⟨33, _⟩ => ⟨S4096x2x1, .i32⟩
  | .hbm, ⟨34, _⟩ => ⟨S4096x2x1, .i32⟩
  | .hbm, ⟨35, _⟩ => ⟨S4096x2x2, .i32⟩
  | .hbm, ⟨36, _⟩ => ⟨S4096x8, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x8, .f32⟩
  | .hbm, ⟨44, _⟩ => ⟨S4096x8, .f32⟩
  | .hbm, ⟨45, _⟩ => ⟨S4096x8, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x8, .f32⟩
  | .hbm, ⟨50, _⟩ => ⟨S4096x8, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1x1024, .f32⟩
  | .hbm, ⟨63, _⟩ => ⟨S4096x8x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x8x1, .f32⟩
  | .hbm, ⟨73, _⟩ => ⟨S4096x8x1024, .f32⟩
  | .hbm, ⟨74, _⟩ => ⟨S4096x8x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_cst : Ref sig .tc := ⟨.hbm, 55, rfl⟩
abbrev main_call0_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Proof.Frames.lean ====
/-
  The runs that ask nothing of the values: each of the three programs terminates from any memory, leaves its seven argument
  arrays as they were and every semaphore counter at zero. The two kernels' are the generated frames; the reference runs on
  the host alone and declares no semaphore. The `_pre` forms drop the precondition.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_gate_finite
public import Idealize.ShloMosaic.Lib.Quiescent

@[expose] public section

noncomputable section

namespace Cert.Proof

open Idealize.ShloMosaic Idealize.SL.Sem

/-- The kernel's frame, over bit patterns. -/
theorem frame_kernel : Cert.quiescent_Kernel := fun m ρ _ => Cert.Kernel.Gen.frame m ρ

/-- The kernel's frame, over the extended reals. -/
theorem frame_kernelIdeal : Cert.quiescent_KernelIdeal := fun m ρ _ => Cert.KernelIdeal.Gen.frame m ρ

/-- The same under the precondition, which it does not use. -/
theorem frame_kernelIdeal_pre : Cert.quiescent_KernelIdeal_pre_gate_finite := fun m ρ _ => Cert.KernelIdeal.Gen.frame m ρ

/-- The reference's frame: its run read at the arguments; no semaphore is declared, so none is off zero. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition, which it does not use. -/
theorem frame_referenceIdeal_pre : Cert.quiescent_ReferenceIdeal_pre_gate_finite := fun m ρ _ =>
  frame_referenceIdeal m ρ trivial

/-- The idealized kernel is the printed kernel with no operation replaced, so there is nothing to preserve. -/
theorem preserves : Cert.preserves_Kernel_KernelIdeal := trivial

end Cert.Proof

end
-- ==== Proof.Router.lean ====
/-
  THE ROUTER OF ONE TOKEN, over the extended reals. Eight logits `ℓ`, all finite. `TopTwo ℓ p q` says that `p` holds the greatest
  logit and `q ≠ p` the greatest of the others; ties may be broken either way, and nothing below depends on how.

  With `E = exp (ℓ q − ℓ p)`, which is in `(0, 1]`:
  * the kernel finds one index at which the greatest logit stands, masks it, takes the greatest of what is left and forms
    `2 − 1 / (1 + E)` (`kernelScale_eq`), whichever of several tied indices it found;
  * the reference puts the two logits in a row of `−∞`, takes the softmax of that row, so the gates `1 / (1 + E)`, `E / (1 + E)`
    and six zeros, and combines the eight gated copies of one expert's output `h` with `1 − max gate` times `h`
    (`combine_eq`): `(2 − 1 / (1 + E)) · h` again, and this for every extended real `h`.
-/
module

public import Idealize.ShloMosaic.PureOps.Ideal.Laws
public import Idealize.ShloMosaic.Lib.IdealHost
public import Idealize.ShloMosaic.Lib.WordCmp
public import Mathlib.Data.EReal.Operations
public import Mathlib.Data.EReal.Inv

@[expose] public section

noncomputable section

namespace Cert.Router

open Idealize.ShloMosaic
open scoped BigOperators

/-- `p` and `q` hold the two greatest of the logits. -/
structure TopTwo (ℓ : Fin 8 → EReal) (p q : Fin 8) : Prop where
  ne : q ≠ p
  first : ∀ e, ℓ e ≤ ℓ p
  second : ∀ e, e ≠ p → ℓ e ≤ ℓ q

/-! ## Maxima -/

/-- A maximum folded from `−∞` is any value that bounds the elements and is one of them. -/
theorem fold_max_eq (f : Fin 8 → EReal) (M : EReal) (hle : ∀ e, f e ≤ M) (p : Fin 8) (hp : M ≤ f p) :
    Finset.univ.fold max ⊥ f = M :=
  le_antisymm (Finset.fold_max_le M |>.2 ⟨bot_le, fun e _ => hle e⟩) (Finset.le_fold_max M |>.2 (.inr ⟨p, Finset.mem_univ p, hp⟩))

/-- The least number of a marked position, eight standing for «not marked», is the number of a marked position if there is one. -/
theorem fold_minsi_marked : ∀ P : Fin 8 → Bool, (∃ j, P j = true) →
    ∃ j, P j = true ∧ Finset.univ.fold IntOp.minsi 2147483647#32 (fun e : Fin 8 => if P e = true then BitVec.ofNat 32 e.val else 8#32) = BitVec.ofNat 32 j.val := by
  decide +kernel

/-- Comparing two positions' numbers compares the positions. -/
theorem select_position {α : Type} (e j : Fin 8) (a b : α) :
    Scalar.select (IntOp.cmpi .eq (BitVec.ofNat 32 e.val) (BitVec.ofNat 32 j.val)) a b = if e = j then a else b := by
  have h : ∀ e j : Fin 8, IntOp.cmpi .eq (BitVec.ofNat 32 e.val) (BitVec.ofNat 32 j.val) = BitVec.ofBool (decide (e = j)) := by decide
  rw [h, WordCmp.select_decide]

/-- Masking one position of the greatest logit leaves the second logit of any `TopTwo` as the maximum of the rest. -/
theorem fold_max_masked {ℓ : Fin 8 → EReal} {p q : Fin 8} (h : TopTwo ℓ p q) (j : Fin 8) (hj : ℓ p ≤ ℓ j) :
    Finset.univ.fold max ⊥ (fun e => if e = j then ⊥ else ℓ e) = ℓ q := by
  by_cases hjp : j = p
  · subst hjp
    refine fold_max_eq _ _ (fun e => ?_) q (by rw [if_neg h.ne])
    split
    · exact bot_le
    · exact h.second e ‹_›
  · have hq : ℓ p ≤ ℓ q := hj.trans (h.second j hjp)
    refine fold_max_eq _ _ (fun e => ?_) p (by rw [if_neg (Ne.symm hjp)]; exact h.first q)
    split
    · exact bot_le
    · exact (h.first e).trans hq

/-- The quotient of two real numbers, the divisor not zero, is their real quotient. -/
theorem div_real (x : ℝ) {y : ℝ} (hy : y ≠ 0) : Ideal.div (x : EReal) (y : EReal) = ((x / y : ℝ) : EReal) := by
  rw [Ideal.div_coe hy, ← EReal.coe_mul, mul_one_div]

/-! ## The kernel's scale -/

/-- The factor by which the kernel multiplies the expert's output, of a row of logits, operation by operation. -/
def kernelScale (ℓ : Fin 8 → EReal) : EReal :=
  2 - Ideal.div 1 (1 + Ideal.exp
    (Finset.univ.fold max ⊥ (fun e : Fin 8 =>
        Scalar.select (IntOp.cmpi .eq (BitVec.ofNat 32 e.val)
          (Finset.univ.fold IntOp.minsi 2147483647#32
            (fun j : Fin 8 => if Finset.univ.fold max ⊥ ℓ ≤ ℓ j then BitVec.ofNat 32 j.val else 8#32)))
          ⊥ (ℓ e))
      - Finset.univ.fold max ⊥ ℓ))

/-- The factor as a real number: `2 − 1 / (1 + exp d)`, where `d` is the second logit less the first. -/
def scale (d : ℝ) : ℝ := 2 - 1 / (1 + Real.exp d)

/-- On finite logits the kernel's factor is `scale` of the difference of the two greatest. -/
theorem kernelScale_eq (a : Fin 8 → ℝ) (p q : Fin 8) (h : TopTwo (fun e => (a e : EReal)) p q) :
    kernelScale (fun e => (a e : EReal)) = (scale (a q - a p) : ℝ) := by
  have hM : Finset.univ.fold max ⊥ (fun e => (a e : EReal)) = (a p : EReal) := fold_max_eq _ _ h.first p le_rfl
  unfold kernelScale
  rw [hM]
  obtain ⟨j, hj, hfold⟩ := fold_minsi_marked (fun e => decide ((a p : EReal) ≤ (a e : EReal))) ⟨p, by simp⟩
  have hfold' : Finset.univ.fold IntOp.minsi 2147483647#32
      (fun e : Fin 8 => if (a p : EReal) ≤ (a e : EReal) then BitVec.ofNat 32 e.val else 8#32) = BitVec.ofNat 32 j.val := by
    rw [← hfold]
    refine Finset.fold_congr fun e _ => ?_
    simp only [decide_eq_true_eq]
  rw [hfold']
  simp only [select_position]
  rw [fold_max_masked h j (of_decide_eq_true hj)]
  have hpos : (1 : ℝ) + Real.exp (a q - a p) ≠ 0 := by positivity
  rw [← EReal.coe_sub, Ideal.exp_coe, ← EReal.coe_one, ← EReal.coe_add, div_real _ hpos]
  rw [show (2 : EReal) = ((2 : ℝ) : EReal) from rfl, ← EReal.coe_sub]
  rfl

/-! ## The reference's gates and their combination -/

/-- The row whose softmax gives the gates: the two greatest logits where they stand, `−∞` elsewhere. -/
def kept (ℓ : Fin 8 → EReal) (p q e : Fin 8) : EReal := if e = p then ℓ p else if e = q then ℓ q else ⊥

/-- What the reference computes of that row `s` and of one expert's output `h`: the softmax of the row, the sum of the eight gated
    copies of `h`, and `1 − max gate` times `h`. -/
def combine (s : Fin 8 → EReal) (h : EReal) : EReal :=
  (∑ e, Ideal.div (Ideal.exp (s e - max ⊥ (Finset.univ.fold max ⊥ s))) (∑ e, Ideal.exp (s e - max ⊥ (Finset.univ.fold max ⊥ s))) * h)
    + (1 - Finset.univ.fold max ⊥ (fun e =>
        Ideal.div (Ideal.exp (s e - max ⊥ (Finset.univ.fold max ⊥ s))) (∑ e, Ideal.exp (s e - max ⊥ (Finset.univ.fold max ⊥ s))))) * h

/-- Factors that are not negative are summed before or after multiplying by any extended real. -/
theorem sum_mul_of_nonneg (g : Fin 8 → ℝ) (hg : ∀ e, 0 ≤ g e) (h : EReal) (s : Finset (Fin 8)) :
    ∑ e ∈ s, (g e : EReal) * h = ((∑ e ∈ s, g e : ℝ) : EReal) * h := by
  induction s using Finset.induction_on with
  | empty => simp
  | insert e s he ih =>
    rw [Finset.sum_insert he, Finset.sum_insert he, ih, EReal.coe_add,
      EReal.right_distrib_of_nonneg (EReal.coe_nonneg.2 (hg e)) (EReal.coe_nonneg.2 (Finset.sum_nonneg fun e _ => hg e))]

/-- On finite logits the reference's combination is `scale` of the difference of the two greatest, times the expert's output. -/
theorem combine_eq (a : Fin 8 → ℝ) (p q : Fin 8) (t : TopTwo (fun e => (a e : EReal)) p q) (h : EReal) :
    combine (kept (fun e => (a e : EReal)) p q) h = ((scale (a q - a p) : ℝ) : EReal) * h := by
  set E := Real.exp (a q - a p) with hE
  have hE0 : 0 < E := Real.exp_pos _
  have hE1 : E ≤ 1 := Real.exp_le_one_iff.2 (sub_nonpos.2 (EReal.coe_le_coe_iff.1 (t.first q)))
  have hs0 : (1 : ℝ) + E ≠ 0 := by positivity
  have hM : Finset.univ.fold max ⊥ (kept (fun e => (a e : EReal)) p q) = (a p : EReal) := by
    refine fold_max_eq _ _ (fun e => ?_) p (by simp [kept])
    unfold kept
    split
    · exact le_rfl
    · split
      · exact t.first q
      · exact bot_le
  -- the exponentials, and their sum
  have hexp : ∀ e, Ideal.exp (kept (fun e => (a e : EReal)) p q e - max ⊥ (a p : EReal))
      = ((if e = p then 1 else if e = q then E else 0 : ℝ) : EReal) := by
    intro e
    rw [max_eq_right bot_le]
    unfold kept
    split
    · rw [← EReal.coe_sub, Ideal.exp_coe, sub_self, Real.exp_zero]
    · split
      · rw [← EReal.coe_sub, Ideal.exp_coe]
      · rw [EReal.bot_sub, Ideal.exp_bot, EReal.coe_zero]
  have hsum : ∑ e, ((if e = p then 1 else if e = q then E else 0 : ℝ) : EReal) = ((1 + E : ℝ) : EReal) := by
    rw [Fintype.sum_eq_add p q t.ne.symm fun e he => by rw [if_neg he.1, if_neg he.2, EReal.coe_zero]]
    rw [if_pos rfl, if_neg t.ne, if_pos rfl, ← EReal.coe_add]
  -- the gates
  have hgate : ∀ e, Ideal.div ((if e = p then 1 else if e = q then E else 0 : ℝ) : EReal) ((1 + E : ℝ) : EReal)
      = (((if e = p then 1 else if e = q then E else 0) / (1 + E) : ℝ) : EReal) := fun e => div_real _ hs0
  have hmax : Finset.univ.fold max ⊥ (fun e => (((if e = p then 1 else if e = q then E else 0) / (1 + E) : ℝ) : EReal))
      = ((1 / (1 + E) : ℝ) : EReal) := by
    refine fold_max_eq _ _ (fun e => EReal.coe_le_coe_iff.2 ?_) p (by rw [if_pos rfl])
    refine div_le_div_of_nonneg_right ?_ (by positivity)
    split
    · exact le_rfl
    · split
      · exact hE1
      · exact zero_le_one
  unfold combine
  simp only [hM, hexp, hsum, hgate, hmax]
  rw [sum_mul_of_nonneg _ (fun e => by split <;> [positivity; (split <;> positivity)])]
  rw [Fintype.sum_eq_add p q t.ne.symm fun e he => by rw [if_neg he.1, if_neg he.2, zero_div]]
  rw [if_pos rfl, if_neg t.ne, if_pos rfl, ← add_div, div_self hs0, ← EReal.coe_one, ← EReal.coe_sub]
  rw [← EReal.right_distrib_of_nonneg (EReal.coe_nonneg.2 zero_le_one)
    (EReal.coe_nonneg.2 (sub_nonneg.2 ((div_le_one (by positivity)).2 (by linarith)))), ← EReal.coe_add]
  congr 2
  unfold scale
  rw [← hE]
  ring

end Cert.Router

end
-- ==== Proof.Token.lean ====
/-
  ONE TOKEN'S COMPUTATION, over the extended reals: its eight logits, and the output of the two-layer expert. Both programs compute
  these two functions of a token's 1024 features; the kernel sums the expert's second layer in four parts of 1024 hidden units
  (`expert_four`). `output` is the kernel's result: the factor that the logits give, times the expert's output.
-/
module

public import proofs.«01_k».proof.Proof.Router
public import Mathlib.Data.EReal.Operations
public import Mathlib.Algebra.BigOperators.Fin

@[expose] public section

noncomputable section

namespace Cert.Token

open scoped BigOperators

/-- The logits of a token with features `x`. -/
def logits (x : Fin 1024 → EReal) (Wg : Fin 1024 → Fin 8 → EReal) (bg : Fin 8 → EReal) (e : Fin 8) : EReal :=
  ∑ k, x k * Wg k e + bg e

/-- The hidden layer of the expert before its rectifier. -/
def hidden (x : Fin 1024 → EReal) (W1 : Fin 1024 → Fin 4096 → EReal) (b1 : Fin 4096 → EReal) (f : Fin 4096) : EReal :=
  ∑ k, x k * W1 k f + b1 f

/-- The expert's output at feature `d`, of its hidden layer: the rectifier, the second layer and its bias. -/
def expert (h : Fin 4096 → EReal) (W2 : Fin 4096 → Fin 1024 → EReal) (b2 : Fin 1024 → EReal) (d : Fin 1024) : EReal :=
  ∑ f, max (h f) 0 * W2 f d + b2 d

/-- The kernel's result for a token, at feature `d`. -/
def output (x : Fin 1024 → EReal) (Wg : Fin 1024 → Fin 8 → EReal) (bg : Fin 8 → EReal) (W1 : Fin 1024 → Fin 4096 → EReal)
    (b1 : Fin 4096 → EReal) (W2 : Fin 4096 → Fin 1024 → EReal) (b2 : Fin 1024 → EReal) (d : Fin 1024) : EReal :=
  Router.kernelScale (logits x Wg bg) * expert (hidden x W1 b1) W2 b2 d

/-- Finite features, weights and biases of the router give finite logits. -/
theorem logits_real (x : Fin 1024 → EReal) (Wg : Fin 1024 → Fin 8 → EReal) (bg : Fin 8 → EReal) (hx : ∀ k, ∃ r : ℝ, x k = r)
    (hW : ∀ k e, ∃ r : ℝ, Wg k e = r) (hb : ∀ e, ∃ r : ℝ, bg e = r) (e : Fin 8) : ∃ r : ℝ, logits x Wg bg e = r := by
  choose x' hx' using hx
  choose W' hW' using hW
  choose b' hb' using hb
  refine ⟨∑ k, x' k * W' k e + b' e, ?_⟩
  unfold logits
  rw [EReal.coe_add, hb']
  congr 1
  rw [show ((∑ k, x' k * W' k e : ℝ) : EReal) = ∑ k, ((x' k * W' k e : ℝ) : EReal) from
    map_sum (⟨⟨Real.toEReal, EReal.coe_zero⟩, EReal.coe_add⟩ : ℝ →+ EReal) _ _]
  refine Finset.sum_congr rfl fun k _ => ?_
  rw [hx', hW', EReal.coe_mul]

/-- A sum over 4096 is the sum of the sums over its four quarters, paired. -/
theorem sum_four (g : Fin 4096 → EReal) :
    ∑ f, g f = (∑ i : Fin 1024, g ⟨i.val, by omega⟩ + ∑ i : Fin 1024, g ⟨1024 + i.val, by omega⟩)
      + (∑ i : Fin 1024, g ⟨2048 + i.val, by omega⟩ + ∑ i : Fin 1024, g ⟨3072 + i.val, by omega⟩) := by
  rw [Fin.sum_univ_add (a := 2048) (b := 2048) g, Fin.sum_univ_add (a := 1024) (b := 1024) (fun i => g (Fin.castAdd 2048 i)),
    Fin.sum_univ_add (a := 1024) (b := 1024) (fun i => g (Fin.natAdd 2048 i))]
  congr 2

/-- The expert's output with its second layer summed in four parts. -/
theorem expert_four (h : Fin 4096 → EReal) (W2 : Fin 4096 → Fin 1024 → EReal) (b2 : Fin 1024 → EReal) (d : Fin 1024) :
    (∑ i : Fin 1024, max (h ⟨i.val, by omega⟩) 0 * W2 ⟨i.val, by omega⟩ d
        + ∑ i : Fin 1024, max (h ⟨1024 + i.val, by omega⟩) 0 * W2 ⟨1024 + i.val, by omega⟩ d
      + (∑ i : Fin 1024, max (h ⟨2048 + i.val, by omega⟩) 0 * W2 ⟨2048 + i.val, by omega⟩ d
        + ∑ i : Fin 1024, max (h ⟨3072 + i.val, by omega⟩) 0 * W2 ⟨3072 + i.val, by omega⟩ d)) + b2 d
      = expert h W2 b2 d := by
  unfold expert
  rw [sum_four fun f => max (h f) 0 * W2 f d]

end Cert.Token

end
-- ==== Proof.Block.lean ====
/-
  ONE BLOCK OF THE KERNEL. From a block of 512 tokens and the whole weights, the kernel's body computes a block of the result; read
  at a token and a feature it is `Token.output` of the token's features and the weights (`block_apply`).
-/
module

public import proofs.«01_k».proof.Proof.Gen.KernelIdeal.Frame
public import proofs.«01_k».proof.Proof.Token
public import Idealize.ShloMosaic.Lib.Pipeline.Value
public import Idealize.ShloMosaic.Lib.Pipeline.ValueKit
public import Idealize.ShloMosaic.Lib.Pointwise

@[expose] public section

noncomputable section

namespace Cert.KernelIdeal.Val

open Idealize.ShloMosaic Cert.KernelIdeal Cert.KernelIdeal.Gen

/-- Minus infinity's bit pattern. -/
theorem negInf : Ideal.ofBits .f32 4286578688#32 = ⊥ := by
  simp [Ideal.ofBits, Ideal.ieee, -EReal.coe_mul]

/-- Two's bit pattern. -/
theorem two : Ideal.ofBits .f32 1073741824#32 = 2 := by
  simp [Ideal.ofBits, Ideal.ieee, -EReal.coe_mul]
  norm_num
  rfl

/-- The factor column of a block: `Router.kernelScale` of the token's logits. -/
theorem scale_apply (x : FVec Ideal S512x1024 .f32) (w : FVec Ideal S1024x8 .f32) (b : FVec Ideal S1x8 .f32) (r : Fin 512) :
    k0_pay3 (F := Ideal) x w b (ix2 r 0)
      = Router.kernelScale (Token.logits (fun k => x (ix2 r k)) (fun k e => w (ix2 k e)) (fun e => b (ix2 0 e))) := by
  pointwise [k0_pay3, k0_pay2]
  rw [negInf, two]
  rfl

/-- The hidden layer of a block. -/
theorem hidden_apply (x : FVec Ideal S512x1024 .f32) (w : FVec Ideal S1024x4096 .f32) (b : FVec Ideal S1x4096 .f32) (r : Fin 512) (f : Fin 4096) :
    k0_pay4 (F := Ideal) x w b (ix2 r f) = Token.hidden (fun k => x (ix2 r k)) (fun k f => w (ix2 k f)) (fun f => b (ix2 0 f)) f := by
  pointwise [k0_pay4, k0_pay2]
  rfl

/-- The block of the result from the factor column, the hidden layer and the second layer's weights in four parts. -/
theorem second_apply (s : FVec Ideal S512x1 .f32) (h : FVec Ideal S512x4096 .f32) (W : FVec Ideal S4096x1024 .f32) (b : FVec Ideal S1x1024 .f32)
    (r : Fin 512) (d : Fin 1024) :
    k0_pay1 (F := Ideal) s h (View.ld W r0_5) (View.ld W r0_6) (View.ld W r0_7) (View.ld W r0_8) b (ix2 r d)
      = s (ix2 r 0) * Token.expert (fun f => h (ix2 r f)) (fun f d => W (ix2 f d)) (fun d => b (ix2 0 d)) d := by
  rw [← Token.expert_four]
  pointwise [k0_pay1]

/-- A token's row of the block of the result. -/
theorem block_apply (x0 : FVec Ideal S512x1024 .f32) (x1 : FVec Ideal S1024x8 .f32) (x2 : FVec Ideal S1x8 .f32) (x3 : FVec Ideal S1024x4096 .f32)
    (x4 : FVec Ideal S1x4096 .f32) (x5 : FVec Ideal S4096x1024 .f32) (x6 : FVec Ideal S1x1024 .f32) (r : Fin 512) (d : Fin 1024) :
    out0_7 (F := Ideal) x0 x1 x2 x3 x4 x5 x6 (ix2 r d)
      = Token.output (fun k => x0 (ix2 r k)) (fun k e => x1 (ix2 k e)) (fun e => x2 (ix2 0 e)) (fun k f => x3 (ix2 k f))
          (fun f => x4 (ix2 0 f)) (fun f d => x5 (ix2 f d)) (fun d => x6 (ix2 0 d)) d := by
  have hz : (![0, 0] : Fin 2 → Nat) = fun _ => 0 := funext fun a => by fin_cases a <;> rfl
  unfold out0_7
  rw [View.canon_unit_zero hz, View.ld_unit_zero hz, View.ld_unit_zero hz, View.ld_unit_zero hz, View.ld_unit_zero hz, View.ld_unit_zero hz,
    View.ld_unit_zero hz, second_apply, scale_apply]
  simp only [hidden_apply]
  rfl

end Cert.KernelIdeal.Val

end
-- ==== Proof.KernelArray.lean ====
/-
  THE KERNEL'S RESULT ARRAY. The eight blocks of 512 tokens fill the 4096 rows, so the array that the region leaves holds, at every
  token and feature, `Token.output` of the token's features and the weights (`final`); the kernel then lays it out as two
  batches of 2048 tokens (`run`).
-/
module

public import proofs.«01_k».proof.Proof.Block

@[expose] public section

noncomputable section

namespace Cert.KernelIdeal.Val

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-! ## What the region reads -/

/-- The tokens, one per row. -/
abbrev tokens : FVec Ideal S4096x1024 .f32 := V m c main_call0_v0
/-- The router's weights. -/
abbrev gateW : FVec Ideal S1024x8 .f32 := V m c main_arg1
/-- The router's bias, as one row. -/
abbrev gateB : FVec Ideal S1x8 .f32 := V m c main_call0_v1
/-- The first layer's weights. -/
abbrev firstW : FVec Ideal S1024x4096 .f32 := V m c main_arg3
/-- The first layer's bias, as one row. -/
abbrev firstB : FVec Ideal S1x4096 .f32 := V m c main_call0_v2
/-- The second layer's weights. -/
abbrev secondW : FVec Ideal S4096x1024 .f32 := V m c main_arg5
/-- The second layer's bias, as one row. -/
abbrev secondB : FVec Ideal S1x1024 .f32 := V m c main_call0_v3

/-- The array that the region leaves. -/
def array : FVec Ideal S4096x1024 .f32 := fun i =>
  Token.output (fun k => tokens m c (ix2 (i 0) k)) (fun k e => gateW m c (ix2 k e)) (fun e => gateB m c (ix2 0 e)) (fun k f => firstW m c (ix2 k f))
    (fun f => firstB m c (ix2 0 f)) (fun f d => secondW m c (ix2 f d)) (fun d => secondB m c (ix2 0 d)) (i 1)

/-- Window 0 moves to the next 512 tokens at every point. -/
theorem idx0 : ∀ t : Fin cfg0.N, win0_0.index t = ![t.val, 0] := (by decide +kernel : ∀ t : Fin grid0.N, _)
/-- Window 1 stays where it is. -/
theorem idx1 : ∀ t : Fin cfg0.N, win0_1.index t = ![0, 0] := (by decide +kernel : ∀ t : Fin grid0.N, _)
/-- Window 2 stays where it is. -/
theorem idx2 : ∀ t : Fin cfg0.N, win0_2.index t = ![0, 0] := (by decide +kernel : ∀ t : Fin grid0.N, _)
/-- Window 3 stays where it is. -/
theorem idx3 : ∀ t : Fin cfg0.N, win0_3.index t = ![0, 0] := (by decide +kernel : ∀ t : Fin grid0.N, _)
/-- Window 4 stays where it is. -/
theorem idx4 : ∀ t : Fin cfg0.N, win0_4.index t = ![0, 0] := (by decide +kernel : ∀ t : Fin grid0.N, _)
/-- Window 5 stays where it is. -/
theorem idx5 : ∀ t : Fin cfg0.N, win0_5.index t = ![0, 0] := (by decide +kernel : ∀ t : Fin grid0.N, _)
/-- Window 6 stays where it is. -/
theorem idx6 : ∀ t : Fin cfg0.N, win0_6.index t = ![0, 0] := (by decide +kernel : ∀ t : Fin grid0.N, _)
/-- Window 7, the result's, moves to the next 512 tokens at every point. -/
theorem idx7 : ∀ t : Fin cfg0.N, win0_7.index t = ![t.val, 0] := (by decide +kernel : ∀ t : Fin grid0.N, _)

/-- Window 0's block at point `t` is rows `512 t …` of the tokens. -/
theorem blk0 (t : Fin cfg0.N) (r : Fin 512) (k : Fin 1024) (h : t.val * 512 + r.val < 4096) :
    (iblk m c 0 t : FVec Ideal S512x1024 .f32) (ix2 r k) = tokens m c (ix2 ⟨t.val * 512 + r.val, h⟩ k) := by
  show _ = V m c main_call0_v0 _
  blk_ext [iblk, idx0]
/-- Window 1's block is the whole of the router's weights. -/
theorem blk1 (t : Fin cfg0.N) : (iblk m c 1 t : FVec Ideal S1024x8 .f32) = gateW m c := by
  funext y
  show _ = V m c main_arg1 y
  blk_ext [iblk, idx1]
/-- Window 2's block is the whole of the router's bias. -/
theorem blk2 (t : Fin cfg0.N) : (iblk m c 2 t : FVec Ideal S1x8 .f32) = gateB m c := by
  funext y
  show _ = V m c main_call0_v1 y
  blk_ext [iblk, idx2]
/-- Window 3's block is the whole of the first layer's weights. -/
theorem blk3 (t : Fin cfg0.N) : (iblk m c 3 t : FVec Ideal S1024x4096 .f32) = firstW m c := by
  funext y
  show _ = V m c main_arg3 y
  blk_ext [iblk, idx3]
/-- Window 4's block is the whole of the first layer's bias. -/
theorem blk4 (t : Fin cfg0.N) : (iblk m c 4 t : FVec Ideal S1x4096 .f32) = firstB m c := by
  funext y
  show _ = V m c main_call0_v2 y
  blk_ext [iblk, idx4]
/-- Window 5's block is the whole of the second layer's weights. -/
theorem blk5 (t : Fin cfg0.N) : (iblk m c 5 t : FVec Ideal S4096x1024 .f32) = secondW m c := by
  funext y
  show _ = V m c main_arg5 y
  blk_ext [iblk, idx5]
/-- Window 6's block is the whole of the second layer's bias. -/
theorem blk6 (t : Fin cfg0.N) : (iblk m c 6 t : FVec Ideal S1x1024 .f32) = secondB m c := by
  funext y
  show _ = V m c main_call0_v3 y
  blk_ext [iblk, idx6]

/-- The blocks that the points write back fill the array. -/
theorem final : (dats m 0 c).arrAt 7 cfg0.N = array m c := by
  refine (dats m 0 c).arrAt_eq_of_covers 7 _ (by decide +kernel) fun t hf y => ?_
  blk_simp
  rw [after0_7, blk1, blk2, blk3, blk4, blk5, blk6]
  obtain ⟨r, d, rfl⟩ : ∃ (r : Fin 512) (d : Fin 1024), y = ix2 r d := ⟨y 0, y 1, by
    funext a
    match a with
    | ⟨0, _⟩ => rfl
    | ⟨1, _⟩ => rfl⟩
  have ht : t.val < 8 := lt_of_lt_of_eq t.isLt N_0
  have he : (win0_7.blk t).view.emb (ix2 r d) = (ix2 ⟨t.val * 512 + r.val, by omega⟩ d : S4096x1024.Idx) := by
    blk_ext [idx7]
  rw [he]
  refine (block_apply _ _ _ _ _ _ _ r d).trans ?_
  unfold array
  rw [show (fun k => (iblk m c 0 t : FVec Ideal S512x1024 .f32) (ix2 r k)) = _ from funext fun k => blk0 m c t r k (by omega)]
  rfl

/-! ## The reshapes before and after the region -/

/-- The tokens' array is the argument with its two batches laid out one after the other. -/
theorem tokens_eq (x : FVec Ideal S2x2048x1024 .f32) (hx : m ((c.tc : Thread nD τ).loc main_arg0) = x) :
    tokens m c = shapeCast S4096x1024 x shapeCasts_S2x2048x1024_S4096x1024 := by
  subst hx
  unfold tokens V V0
  simp only [hostOps0, List.flatten_cons, List.flatten_nil, List.append_nil, StableHlo.TRef.reshape, StableHlo.TRef.toBuf, StableHlo.TRef.ofBuf, cast_eq]
  after_results_simp <;> rfl

/-- The router's bias is read as one row. -/
theorem gateB_eq (b : FVec Ideal S8 .f32) (hb : m ((c.tc : Thread nD τ).loc main_arg2) = b) :
    gateB m c = shapeCast S1x8 b shapeCasts_S8_S1x8 := by
  subst hb
  unfold gateB V V0
  simp only [hostOps0, List.flatten_cons, List.flatten_nil, List.append_nil, StableHlo.TRef.reshape, StableHlo.TRef.toBuf, StableHlo.TRef.ofBuf, cast_eq]
  after_results_simp <;> rfl

/-- The first layer's bias is read as one row. -/
theorem firstB_eq (b : FVec Ideal S4096 .f32) (hb : m ((c.tc : Thread nD τ).loc main_arg4) = b) :
    firstB m c = shapeCast S1x4096 b shapeCasts_S4096_S1x4096 := by
  subst hb
  unfold firstB V V0
  simp only [hostOps0, List.flatten_cons, List.flatten_nil, List.append_nil, StableHlo.TRef.reshape, StableHlo.TRef.toBuf, StableHlo.TRef.ofBuf, cast_eq]
  after_results_simp <;> rfl

/-- The second layer's bias is read as one row. -/
theorem secondB_eq (b : FVec Ideal S1024 .f32) (hb : m ((c.tc : Thread nD τ).loc main_arg6) = b) :
    secondB m c = shapeCast S1x1024 b shapeCasts_S1024_S1x1024 := by
  subst hb
  unfold secondB V V0
  simp only [hostOps0, List.flatten_cons, List.flatten_nil, List.append_nil, StableHlo.TRef.reshape, StableHlo.TRef.toBuf, StableHlo.TRef.ofBuf, cast_eq]
  after_results_simp <;> rfl

/-- The result array after the run: the region's array laid out as two batches. -/
theorem result_eq : Pipeline.afterTail₀ cfgs (dats m) 0 (V0 m) [hostOps1] c main_v0
    = shapeCast S2x2048x1024 (array m c) shapeCasts_S4096x1024_S2x2048x1024 := by
  unfold Pipeline.afterTail₀
  simp only [hostOps1, List.flatten_cons, List.flatten_nil, List.append_nil, StableHlo.TRef.reshape, StableHlo.TRef.toBuf, StableHlo.TRef.ofBuf, cast_eq]
  after_results_simp
  rw [← final]
  exact congrArg (fun A : FVec Ideal S4096x1024 .f32 => shapeCast S2x2048x1024 A shapeCasts_S4096x1024_S2x2048x1024)
    (Pipeline.withArrays_arr (cfgs 0).spec winFacts0.arr_inj c (V0 m c) (fun w => (dats m 0 c).arrAt w (cfgs 0).N) 7)

/-- The kernel's result at an index, of the arguments. -/
theorem result_apply (x : FVec Ideal S2x2048x1024 .f32) (Wg : FVec Ideal S1024x8 .f32) (bg : FVec Ideal S8 .f32)
    (W1 : FVec Ideal S1024x4096 .f32) (b1 : FVec Ideal S4096 .f32) (W2 : FVec Ideal S4096x1024 .f32) (b2 : FVec Ideal S1024 .f32)
    (hx : m ((c.tc : Thread nD τ).loc main_arg0) = x) (hWg : m ((c.tc : Thread nD τ).loc main_arg1) = Wg)
    (hbg : m ((c.tc : Thread nD τ).loc main_arg2) = bg) (hW1 : m ((c.tc : Thread nD τ).loc main_arg3) = W1)
    (hb1 : m ((c.tc : Thread nD τ).loc main_arg4) = b1) (hW2 : m ((c.tc : Thread nD τ).loc main_arg5) = W2)
    (hb2 : m ((c.tc : Thread nD τ).loc main_arg6) = b2) (a : Fin 2) (b : Fin 2048) (d : Fin 1024) :
    shapeCast S2x2048x1024 (array m c) shapeCasts_S4096x1024_S2x2048x1024 (ix3 a b d)
      = Token.output (fun k => x (ix3 a b k)) (fun k e => Wg (ix2 k e)) (fun e => bg (ix1 e)) (fun k f => W1 (ix2 k f))
          (fun f => b1 (ix1 f)) (fun f d => W2 (ix2 f d)) (fun d => b2 (ix1 d)) d := by
  have h : shapeCast S2x2048x1024 (array m c) shapeCasts_S4096x1024_S2x2048x1024 (ix3 a b d)
      = array m c (ix2 ⟨a.val * 2048 + b.val, by omega⟩ d) := by
    generalize array m c = A
    pointwise
  rw [h]
  unfold array
  rw [tokens_eq m c x hx, gateB_eq m c bg hbg, firstB_eq m c b1 hb1, secondB_eq m c b2 hb2,
    show gateW m c = Wg from (V_main_arg1 m c).trans hWg, show firstW m c = W1 from (V_main_arg3 m c).trans hW1,
    show secondW m c = W2 from (V_main_arg5 m c).trans hW2]
  pointwise

/-- The run: the result is the region's array laid out as two batches, and the arguments are unchanged. -/
theorem run : θ_run defs (onTc (τ := τ) (main (F := Ideal))) ⟨m, fun _ => 0, ρ⟩ fun r => ∀ c : Dev nD,
      r.2.mem ((c.tc : Thread nD τ).loc main_v0) = shapeCast S2x2048x1024 (array m c) shapeCasts_S4096x1024_S2x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.rest_eq c main_v0 (Pipeline.mem_restRefs_of main_v0 (by decide) (by decide))).trans (result_eq m c),
      (h.rest_eq c main_arg0 (Pipeline.mem_restRefs_of main_arg0 (by decide) (by decide))).trans (W_main_arg0 m (dats m) c),
      (h.in_eq c 1 rfl).trans ((A_eq m c 1).trans (V_main_arg1 m c)),
      (h.rest_eq c main_arg2 (Pipeline.mem_restRefs_of main_arg2 (by decide) (by decide))).trans (W_main_arg2 m (dats m) c),
      (h.in_eq c 3 rfl).trans ((A_eq m c 3).trans (V_main_arg3 m c)),
      (h.rest_eq c main_arg4 (Pipeline.mem_restRefs_of main_arg4 (by decide) (by decide))).trans (W_main_arg4 m (dats m) c),
      (h.in_eq c 5 rfl).trans ((A_eq m c 5).trans (V_main_arg5 m c)),
      (h.rest_eq c main_arg6 (Pipeline.mem_restRefs_of main_arg6 (by decide) (by decide))).trans (W_main_arg6 m (dats m) c)⟩)
    (run_main m ρ)

end Cert.KernelIdeal.Val

end
-- ==== Proof.Sorting.lean ====
/-
  THE TWO GREATEST OF EIGHT BY SORTING. A descending stable sort of eight extended reals puts first a position that holds the
  greatest, and second a position that holds the greatest of the others.
-/
module

public import proofs.«01_k».proof.Proof.Router
public import Idealize.ShloMosaic.Lib.SortFacts

@[expose] public section

noncomputable section

namespace Cert.Router

open Idealize.ShloMosaic

/-- The position whose element the descending sort puts at place `i`. -/
def sorted (ℓ : Fin 8 → EReal) (i : Fin 8) : Fin 8 :=
  sortedFrom (fun k k' => (FloatOps.cmpfTotal (F := Ideal) (φ := .f32) .gt (ℓ k) (ℓ k')) == 1#1) i

/-- The sort's comparison is the strict order. -/
theorem before_iff (x y : EReal) : ((FloatOps.cmpfTotal (F := Ideal) (φ := .f32) .gt x y) == 1#1) = decide (y < x) := by
  show ((BitVec.ofBool (decide (y < x))) == 1#1) = _
  cases decide (y < x) <;> rfl

/-- An element at a later place of the descending sort is not greater. -/
theorem sorted_le (ℓ : Fin 8 → EReal) (i j : Fin 8) (hij : i < j) : ℓ (sorted ℓ j) ≤ ℓ (sorted ℓ i) := by
  have h := sortedFrom_noInversion (fun k k' => decide (ℓ k' < ℓ k)) (fun k k' => decide (ℓ k' < ℓ k))
    (fun a b h => decide_eq_false (lt_asymm (of_decide_eq_true h))) (fun _ _ h => h)
    (fun a b c h₁ h₂ => decide_eq_false (not_lt.2 ((not_lt.1 (of_decide_eq_false h₁)).trans (not_lt.1 (of_decide_eq_false h₂)))))
    i j hij
  unfold sorted
  simp only [before_iff]
  exact not_lt.1 (of_decide_eq_false h)

/-- The positions that the descending sort puts first and second hold the two greatest. -/
theorem topTwo_sorted (ℓ : Fin 8 → EReal) : TopTwo ℓ (sorted ℓ 0) (sorted ℓ 1) where
  ne h := absurd (sortedFrom_injective _ h) (by decide)
  first e := by
    obtain ⟨k, rfl⟩ := sortedFrom_surjective
      (fun k k' => (FloatOps.cmpfTotal (F := Ideal) (φ := .f32) .gt (ℓ k) (ℓ k')) == 1#1) e
    rcases eq_or_ne k 0 with rfl | hk
    · exact le_rfl
    · exact sorted_le ℓ 0 k (Fin.pos_iff_ne_zero.2 hk)
  second e he := by
    obtain ⟨k, rfl⟩ := sortedFrom_surjective
      (fun k k' => (FloatOps.cmpfTotal (F := Ideal) (φ := .f32) .gt (ℓ k) (ℓ k')) == 1#1) e
    have hk0 : k ≠ 0 := fun h => he (by rw [h]; rfl)
    rcases eq_or_ne k 1 with rfl | hk
    · exact le_rfl
    · exact sorted_le ℓ 1 k (by have : k.val ≠ 0 := fun h => hk0 (Fin.ext h)
                                have : k.val ≠ 1 := fun h => hk (Fin.ext h)
                                rw [Fin.lt_def]; show 1 < k.val; omega)

/-- On finite logits, the reference's combination of the two greatest is the kernel's factor times the expert's output. -/
theorem combine_sorted (ℓ : Fin 8 → EReal) (hℓ : ∀ e, ∃ r : ℝ, ℓ e = r) (h : EReal) :
    combine (kept ℓ (sorted ℓ 0) (sorted ℓ 1)) h = kernelScale ℓ * h := by
  choose a ha using hℓ
  obtain rfl : ℓ = fun e => (a e : EReal) := funext ha
  have t := topTwo_sorted fun e => (a e : EReal)
  rw [combine_eq a _ _ t, kernelScale_eq a _ _ t]

end Cert.Router

end
-- ==== Proof.RefRouter.lean ====
/-
  THE REFERENCE'S MASKED LOGITS. From the logits of 4096 tokens the reference takes each row's two greatest with their positions,
  and writes them into an array of `−∞` at those positions. Read at a row, that array is `Router.kept` of the row's logits at the
  two positions that sorting the row puts first (`masked_apply`).
-/
module

public import proofs.«01_k».proof.ReferenceIdeal
public import proofs.«01_k».proof.Proof.Gen.ReferenceIdeal
public import proofs.«01_k».proof.Proof.Sorting
public import Idealize.ShloMosaic.Lib.Routing.OpsSet
public import Idealize.ShloMosaic.Lib.Routing.OpsPair
public import Idealize.ShloMosaic.Lib.Pointwise
public import Idealize.ShloMosaic.Lib.Pointwise.IndexBridge

@[expose] public section

noncomputable section

namespace Cert.ReferenceIdeal.RefValue

open Idealize.ShloMosaic Cert.ReferenceIdeal Cert.ReferenceIdeal.Gen Cert.Router

/-- Minus infinity's bit pattern. -/
theorem negInf : Ideal.ofBits .f32 4286578688#32 = ⊥ := by
  simp [Ideal.ofBits, Ideal.ieee, -EReal.coe_mul]

/-- Each row's two greatest logits and their positions. -/
abbrev topTwo (L : FVec Ideal S4096x8 .f32) : FVec Ideal S4096x2 .f32 × IVec S4096x2 32 :=
  Host.topK S4096x2 1 (FloatOps.cmpfTotal .gt) L sliceFits_S4096x8_S4096x2

/-- The row numbers, in one column; a negative one would count from the end. -/
abbrev rowIdx : IVec S4096x1 32 :=
  select (cmpi .slt (broadcastInDim S4096x1 ![0] bcast_S4096_S4096x1_0 (iotaInDim S4096 32 0)) (broadcastInDim S4096x1 ![] bcast_S_S4096x1 (constantI S_ 32 0#32)))
    (addi (broadcastInDim S4096x1 ![0] bcast_S4096_S4096x1_0 (iotaInDim S4096 32 0)) (broadcastInDim S4096x1 ![] bcast_S_S4096x1 (constantI S_ 32 4096#32)))
    (broadcastInDim S4096x1 ![0] bcast_S4096_S4096x1_0 (iotaInDim S4096 32 0))

/-- The column numbers; a negative one would count from the end. -/
abbrev colIdx (t : IVec S4096x2 32) : IVec S4096x2 32 :=
  select (cmpi .slt t (broadcastInDim S4096x2 ![] bcast_S_S4096x2 (constantI S_ 32 0#32)))
    (addi t (broadcastInDim S4096x2 ![] bcast_S_S4096x2 (constantI S_ 32 8#32))) t

/-- Where the two greatest are written: pairs of a row number and a column number. -/
abbrev places (t : IVec S4096x2 32) : IVec S4096x2x2 32 :=
  concatenate S4096x2x2 2
    [⟨S4096x2x1, broadcastInDim S4096x2x1 ![0, 1] bcast_S4096x2_S4096x2x1_0_1 (broadcastInDim S4096x2 ![0, 1] bcast_S4096x1_S4096x2_0_1 rowIdx)⟩,
     ⟨S4096x2x1, broadcastInDim S4096x2x1 ![0, 1] bcast_S4096x2_S4096x2x1_0_1 (colIdx t)⟩]
    concatenates_S4096x2x1_S4096x2x1_S4096x2x2_d2

/-- The logits with all but each row's two greatest replaced by `−∞`. -/
def masked (L : FVec Ideal S4096x8 .f32) : FVec Ideal S4096x8 .f32 :=
  Host.scatter scatter_S4096x8_S4096x2x2_S4096x2_n_01_01_2 (fun _ b => b)
    (broadcastInDim S4096x8 ![] bcast_S_S4096x8 (constant S_ .f32 0xFF800000#32)) (places (topTwo L).2) (topTwo L).1

/-- A row of an array, as a function of the column. -/
abbrev row {n k : Nat} (L : (⟨2, ![n, k]⟩ : Shape).Idx → EReal) (r : Fin n) (e : Fin k) : EReal := L (ix2 r e)

/-- Changing the column of an index of a two-axis array. -/
theorem along_one {n k : Nat} (r : Fin n) (e : Fin k) (j : Fin k) :
    (ix2 r e : (⟨2, ![n, k]⟩ : Shape).Idx).along 1 j = ix2 r j := by
  funext d
  match d with
  | ⟨0, _⟩ => rfl
  | ⟨1, _⟩ => rfl

/-- The two greatest values of a row are its elements at the positions that sorting puts first. -/
theorem topTwo_values (L : FVec Ideal S4096x8 .f32) (r : Fin 4096) (j : Fin 2) :
    (topTwo L).1 (ix2 r j) = row L r (sorted (row L r) ⟨j.val, by omega⟩) := by
  unfold topTwo Host.topK Host.sort2
  pointwise
  have hf : (fun k => (ix2 r ⟨j.val, by omega⟩ : S4096x8.Idx).along 1 k) = fun k : Fin 8 => ix2 r k := funext fun k => along_one r _ k
  exact congrArg (fun f : Fin 8 → S4096x8.Idx => L (f (sortedFrom (fun k k' =>
    FloatOps.cmpfTotal (F := Ideal) (φ := .f32) CmpDirection.gt (L (f k)) (L (f k')) == 1#1) ⟨j.val, by omega⟩))) hf

/-- Their positions are those positions' numbers. -/
theorem topTwo_positions (L : FVec Ideal S4096x8 .f32) (r : Fin 4096) (j : Fin 2) :
    (topTwo L).2 (ix2 r j) = BitVec.ofNat 32 (sorted (row L r) ⟨j.val, by omega⟩).val := by
  unfold topTwo Host.topK Host.sort2
  pointwise
  have hf : (fun k => (ix2 r ⟨j.val, by omega⟩ : S4096x8.Idx).along 1 k) = fun k : Fin 8 => ix2 r k := funext fun k => along_one r _ k
  exact congrArg (fun f : Fin 8 → S4096x8.Idx => BitVec.ofNat 32 (f (sortedFrom (fun k k' =>
    FloatOps.cmpfTotal (F := Ideal) (φ := .f32) CmpDirection.gt (L (f k)) (L (f k')) == 1#1) ⟨j.val, by omega⟩) 1).val) hf

/-- The first index of a pair is the row's number. -/
theorem places_row (t : IVec S4096x2 32) (r : Fin 4096) (j : Fin 2) :
    places t (ix3 r j 0) = BitVec.ofNat 32 r.val := by
  pointwise
  exact Routing.wrap_of_lt _ _ (by rw [BitVec.toNat_ofNat]; exact Nat.lt_of_le_of_lt (Nat.mod_le _ _) (by have := r.isLt; show r.val < 2 ^ 31; omega))

/-- The second index of a pair is the column's number, if that is one of the eight. -/
theorem places_col (t : IVec S4096x2 32) (r : Fin 4096) (j : Fin 2) (p : Fin 8) (h : t (ix2 r j) = BitVec.ofNat 32 p.val) :
    places t (ix3 r j 1) = BitVec.ofNat 32 p.val := by
  pointwise
  rw [h]
  exact Routing.wrap_of_lt _ _ (by rw [BitVec.toNat_ofNat]; exact Nat.lt_of_le_of_lt (Nat.mod_le _ _) (by have := p.isLt; show p.val < 2 ^ 31; omega))

/-- The word of a small number, read as a signed integer, is the number. -/
theorem toInt_small (n : Nat) (h : n < 2 ^ 31) : (BitVec.ofNat 32 n).toInt = n := by
  rw [BitVec.toInt_eq_toNat_cond, BitVec.toNat_ofNat]
  have e : n % 2 ^ 32 = n := Nat.mod_eq_of_lt (by omega)
  rw [e, if_pos (by omega)]

/-- Place `j` of row `a`'s two greatest is written at row `a`, at the column that sorting the row puts at place `j`. -/
theorem lands_iff (L : FVec Ideal S4096x8 .f32) (a r : Fin 4096) (j : Fin 2) (e : Fin 8) :
    scatter_S4096x8_S4096x2x2_S4096x2_n_01_01_2.resultIdx? (ix2 a j) (places (topTwo L).2) = some (ix2 r e)
      ↔ a = r ∧ sorted (row L a) ⟨j.val, by omega⟩ = e := by
  have h := Routing.scatter_lands2 scatter_S4096x8_S4096x2x2_S4096x2_n_01_01_2 rfl rfl rfl (places (topTwo L).2) a j r e
  rw [← ix2_eq_valueIdx, ← ix2_eq_valueIdx, ← ix3_eq_valueIdx, ← ix3_eq_valueIdx] at h
  rw [places_row, places_col _ _ _ _ (topTwo_positions L a j), toInt_small _ (by omega), toInt_small _ (by omega)] at h
  refine h.trans ?_
  rw [Nat.cast_inj, Nat.cast_inj, Fin.val_inj, Fin.val_inj]

/-- The masked array at a row: the row's two greatest where they stand, `−∞` elsewhere. -/
theorem masked_apply (L : FVec Ideal S4096x8 .f32) (r : Fin 4096) (e : Fin 8) :
    masked L (ix2 r e) = kept (row L r) (sorted (row L r) 0) (sorted (row L r) 1) e := by
  -- every place that is written at this element writes the element of the logits
  have hv : ∀ k : S4096x2.Idx, scatter_S4096x8_S4096x2x2_S4096x2_n_01_01_2.resultIdx? k (places (topTwo L).2) = some (ix2 r e) →
      (topTwo L).1 k = row L r e := by
    intro k hk
    obtain ⟨a, j, rfl⟩ : ∃ (a : Fin 4096) (j : Fin 2), k = ix2 a j := ⟨k 0, k 1, by
      funext d
      match d with
      | ⟨0, _⟩ => rfl
      | ⟨1, _⟩ => rfl⟩
    obtain ⟨rfl, rfl⟩ := (lands_iff L a r j e).1 hk
    exact topTwo_values L a j
  unfold kept
  by_cases h0 : e = sorted (row L r) 0
  · rw [if_pos h0, ← h0]
    exact Routing.scatter_set_hit _ _ _ _ _ _ hv (ix2 r 0) ((lands_iff L r r 0 e).2 ⟨rfl, h0.symm⟩)
  · rw [if_neg h0]
    by_cases h1 : e = sorted (row L r) 1
    · rw [if_pos h1, ← h1]
      exact Routing.scatter_set_hit _ _ _ _ _ _ hv (ix2 r 1) ((lands_iff L r r 1 e).2 ⟨rfl, h1.symm⟩)
    · rw [if_neg h1]
      refine (Routing.scatter_set_miss _ _ _ _ _ fun k hk => ?_).trans ?_
      · obtain ⟨a, j, rfl⟩ : ∃ (a : Fin 4096) (j : Fin 2), k = ix2 a j := ⟨k 0, k 1, by
          funext d
          match d with
          | ⟨0, _⟩ => rfl
          | ⟨1, _⟩ => rfl⟩
        obtain ⟨rfl, h⟩ := (lands_iff L a r j e).1 hk
        clear hk hv
        rcases (by decide : ∀ j : Fin 2, j = 0 ∨ j = 1) j with rfl | rfl
        · exact h0 h.symm
        · exact h1 h.symm
      · pointwise
        exact negInf

end Cert.ReferenceIdeal.RefValue

end
-- ==== Proof.Reference.lean ====
/-
  THE REFERENCE'S RESULT AT AN INDEX. Token `b` of batch `a` has the features `x a b ·`; the result at its feature `d` is
  `Router.combine` of the token's masked logits and of the expert's output at `d` (`result_combine`). Where the token's logits are
  finite this is `Token.output`, the function that the kernel computes (`result_apply`).
-/
module

public import proofs.«01_k».proof.Proof.Gen.ReferenceIdeal.Run
public import proofs.«01_k».proof.Proof.RefRouter
public import proofs.«01_k».proof.Proof.Token

@[expose] public section

noncomputable section

namespace Cert.ReferenceIdeal.RefValue

open Idealize.ShloMosaic Idealize.ShloMosaic.TcCoe Cert.ReferenceIdeal Cert.ReferenceIdeal.Gen Cert.ReferenceIdeal.Value Cert.Router

/-- The logits of all tokens. -/
def logits (x : FVec Ideal S2x2048x1024 .f32) (Wg : FVec Ideal S1024x8 .f32) (bg : FVec Ideal S8 .f32) : FVec Ideal S4096x8 .f32 :=
  addf (Host.dotGeneral dot_S4096x1024_S1024x8_S4096x8_1_0_0_1_n_n none (shapeCast S4096x1024 x shapeCasts_S2x2048x1024_S4096x1024) Wg)
    (broadcastInDim S4096x8 ![0, 1] bcast_S1x8_S4096x8_0_1 (broadcastInDim S1x8 ![1] bcast_S8_S1x8_1 bg))

/-- The expert's output of all tokens. -/
def experts (x : FVec Ideal S2x2048x1024 .f32) (W1 : FVec Ideal S1024x4096 .f32) (b1 : FVec Ideal S4096 .f32)
    (W2 : FVec Ideal S4096x1024 .f32) (b2 : FVec Ideal S1024 .f32) : FVec Ideal S4096x1024 .f32 :=
  addf (Host.dotGeneral dot_S4096x4096_S4096x1024_S4096x1024_1_0_0_1_n_n none
      (maximumf (addf (Host.dotGeneral dot_S4096x1024_S1024x4096_S4096x4096_1_0_0_1_n_n none
          (shapeCast S4096x1024 x shapeCasts_S2x2048x1024_S4096x1024) W1)
        (broadcastInDim S4096x4096 ![0, 1] bcast_S1x4096_S4096x4096_0_1 (broadcastInDim S1x4096 ![1] bcast_S4096_S1x4096_1 b1)))
        (broadcastInDim S4096x4096 ![] bcast_S_S4096x4096 (constant S_ .f32 0x00000000#32))) W2)
    (broadcastInDim S4096x1024 ![0, 1] bcast_S1x1024_S4096x1024_0_1 (broadcastInDim S1x1024 ![1] bcast_S1024_S1x1024_1 b2))

/-- The logits of one token. -/
theorem logits_apply (x : FVec Ideal S2x2048x1024 .f32) (Wg : FVec Ideal S1024x8 .f32) (bg : FVec Ideal S8 .f32)
    (a : Fin 2) (b : Fin 2048) (e : Fin 8) :
    logits x Wg bg (ix2 ⟨a.val * 2048 + b.val, by omega⟩ e)
      = Token.logits (fun k => x (ix3 a b k)) (fun k e => Wg (ix2 k e)) (fun e => bg (ix1 e)) e := by
  pointwise [logits]
  rfl

/-- The expert's output of one token. -/
theorem experts_apply (x : FVec Ideal S2x2048x1024 .f32) (W1 : FVec Ideal S1024x4096 .f32) (b1 : FVec Ideal S4096 .f32)
    (W2 : FVec Ideal S4096x1024 .f32) (b2 : FVec Ideal S1024 .f32)
    (a : Fin 2) (b : Fin 2048) (d : Fin 1024) :
    experts x W1 b1 W2 b2 (ix2 ⟨a.val * 2048 + b.val, by omega⟩ d)
      = Token.expert (Token.hidden (fun k => x (ix3 a b k)) (fun k f => W1 (ix2 k f)) (fun f => b1 (ix1 f)))
          (fun f d => W2 (ix2 f d)) (fun d => b2 (ix1 d)) d := by
  pointwise [experts]
  rfl

variable (m : (ℓ : Loc nD τ sig) → Buf (Elt Ideal) ℓ) (c : Dev nD)

set_option maxHeartbeats 2000000 in
/-- The result at an index is the combination of the row of masked logits and of the expert's output. -/
theorem result_combine (a : Fin 2) (b : Fin 2048) (d : Fin 1024) :
    res_out0 m c (ix3 a b d)
      = combine (row (masked (logits (m ((c.tc : Thread nD τ).loc main_arg0)) (m ((c.tc : Thread nD τ).loc main_arg1)) (m ((c.tc : Thread nD τ).loc main_arg2)))) ⟨a.val * 2048 + b.val, by omega⟩)
        (experts (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (ix2 ⟨a.val * 2048 + b.val, by omega⟩ d)) := by
  unfold res_out0 res_main_v56
  generalize hS : Host.scatter _ _ _ _ _ = S
  generalize hH : addf (F := Ideal) (Host.dotGeneral dot_S4096x4096_S4096x1024_S4096x1024_1_0_0_1_n_n none _ _) _ = H
  have hS' : masked (logits (m ((c.tc : Thread nD τ).loc main_arg0)) (m ((c.tc : Thread nD τ).loc main_arg1)) (m ((c.tc : Thread nD τ).loc main_arg2))) = S := hS
  have hH' : experts (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) = H := hH
  rw [hS', hH']
  clear hS hH hS' hH'
  pointwise
  rw [negInf]
  rfl

/-- Where a token's logits are finite, the reference's result is the kernel's. -/
theorem result_apply (x : FVec Ideal S2x2048x1024 .f32) (Wg : FVec Ideal S1024x8 .f32) (bg : FVec Ideal S8 .f32)
    (W1 : FVec Ideal S1024x4096 .f32) (b1 : FVec Ideal S4096 .f32) (W2 : FVec Ideal S4096x1024 .f32) (b2 : FVec Ideal S1024 .f32)
    (hx : m ((c.tc : Thread nD τ).loc main_arg0) = x) (hWg : m ((c.tc : Thread nD τ).loc main_arg1) = Wg)
    (hbg : m ((c.tc : Thread nD τ).loc main_arg2) = bg) (hW1 : m ((c.tc : Thread nD τ).loc main_arg3) = W1)
    (hb1 : m ((c.tc : Thread nD τ).loc main_arg4) = b1) (hW2 : m ((c.tc : Thread nD τ).loc main_arg5) = W2)
    (hb2 : m ((c.tc : Thread nD τ).loc main_arg6) = b2) (a : Fin 2) (b : Fin 2048) (d : Fin 1024)
    (hfin : ∀ e, ∃ r : ℝ, Token.logits (fun k => x (ix3 a b k)) (fun k e => Wg (ix2 k e)) (fun e => bg (ix1 e)) e = r) :
    res_out0 m c (ix3 a b d)
      = Token.output (fun k => x (ix3 a b k)) (fun k e => Wg (ix2 k e)) (fun e => bg (ix1 e)) (fun k f => W1 (ix2 k f))
          (fun f => b1 (ix1 f)) (fun f d => W2 (ix2 f d)) (fun d => b2 (ix1 d)) d := by
  rw [result_combine, hx, hWg, hbg, hW1, hb1, hW2, hb2, experts_apply]
  rw [show row (masked (logits x Wg bg)) ⟨a.val * 2048 + b.val, by omega⟩ = _ from funext fun e => masked_apply _ _ e]
  rw [show row (logits x Wg bg) ⟨a.val * 2048 + b.val, by omega⟩ = _ from funext fun e => logits_apply x Wg bg a b e]
  exact combine_sorted _ hfin _

end Cert.ReferenceIdeal.RefValue

end
-- ==== Proof.Finite.lean ====
/-
  THE PRECONDITION. `gate_finite` sets a bit for every element of the tokens and of the router's weights and bias whose absolute
  value is below infinity; where all its bits are set, these arrays hold real numbers.
-/
module

public import proofs.«01_k».proof.Pre_gate_finite
public import proofs.«01_k».proof.Proof.Gen.Pre_gate_finite
public import Idealize.ShloMosaic.Lib.Pointwise
public import Idealize.ShloMosaic.PureOps.Ideal.Laws

@[expose] public section

noncomputable section

namespace Cert.Pre_gate_finite.Val

open Idealize.ShloMosaic Cert.Pre_gate_finite Cert.Pre_gate_finite.Gen

/-- Infinity's bit pattern. -/
theorem posInf : Ideal.ofBits .f32 0x7F800000#32 = ⊤ := by
  simp [Ideal.ofBits, Ideal.ieee, -EReal.coe_mul]

/-- An extended real whose absolute value is below infinity is a real number. -/
theorem real_of_abs_lt (x : EReal) (h : Ideal.cmp .olt (max x (-x)) (Ideal.ofBits .f32 0x7F800000#32) = 1#1) : ∃ r : ℝ, x = r := by
  rw [posInf] at h
  induction x with
  | bot => exact absurd h (by simp [Ideal.cmp])
  | top => exact absurd h (by simp [Ideal.cmp])
  | coe r => exact ⟨r, rfl⟩

variable (x : FVec Ideal S2x2048x1024 .f32) (Wg : FVec Ideal S1024x8 .f32) (bg : FVec Ideal S8 .f32)
  (W1 : FVec Ideal S1024x4096 .f32) (b1 : FVec Ideal S4096 .f32) (W2 : FVec Ideal S4096x1024 .f32) (b2 : FVec Ideal S1024 .f32)

/-- The tokens are real numbers. -/
theorem tokens_real (h : (fn x Wg bg W1 b1 W2 b2).1 = fun _ => 1#1) (i : S2x2048x1024.Idx) : ∃ r : ℝ, x i = r :=
  real_of_abs_lt _ (congrFun h i)

/-- The router's weights are real numbers. -/
theorem weights_real (h : (fn x Wg bg W1 b1 W2 b2).2.1 = fun _ => 1#1) (i : S1024x8.Idx) : ∃ r : ℝ, Wg i = r :=
  real_of_abs_lt _ (congrFun h i)

/-- The router's bias is of real numbers. -/
theorem bias_real (h : (fn x Wg bg W1 b1 W2 b2).2.2 = fun _ => 1#1) (i : S8.Idx) : ∃ r : ℝ, bg i = r :=
  real_of_abs_lt _ (congrFun h i)

end Cert.Pre_gate_finite.Val

end
-- ==== Proof.Algebraic.lean ====
/-
  THE VALUE CLAIM. From memories that agree on the seven arguments, where the tokens and the router's weights and bias are finite,
  the kernel and the reference end with the same result array: at every batch, token and feature both hold `Token.output`.
-/
module

public import proofs.«01_k».proof.Defs
public import proofs.«01_k».proof.Proof.KernelArray
public import proofs.«01_k».proof.Proof.Reference
public import proofs.«01_k».proof.Proof.Finite

@[expose] public section

noncomputable section

namespace Cert.Proof

open Idealize.ShloMosaic Idealize.SL.Sem

/-- An index of a three-axis array is the index of its coordinates. -/
theorem idx3_eq {n0 n1 n2 : Nat} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- The kernel and the reference end with equal results. -/
theorem algebraic : Cert.algebraic_KernelIdeal_ReferenceIdeal_pre_gate_finite := by
  intro m ρ m' ρ' hpre hagree
  refine ⟨fun c => shapeCast Cert.KernelIdeal.S2x2048x1024 (Cert.KernelIdeal.Val.array m c) Cert.KernelIdeal.Gen.shapeCasts_S4096x1024_S2x2048x1024,
    Cert.KernelIdeal.Val.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6⟩ := hagree c
  obtain ⟨p0, p1, p2⟩ := hpre c
  funext i
  rw [idx3_eq i]
  refine (Cert.ReferenceIdeal.RefValue.result_apply m' c _ _ _ _ _ _ _ h0 h1 h2 h3 h4 h5 h6 (i 0) (i 1) (i 2) ?_).trans
    (Cert.KernelIdeal.Val.result_apply m c _ _ _ _ _ _ _ rfl rfl rfl rfl rfl rfl rfl (i 0) (i 1) (i 2)).symm
  exact Cert.Token.logits_real _ _ _ (fun k => Cert.Pre_gate_finite.Val.tokens_real _ _ _ _ _ _ _ p0 _)
    (fun k e => Cert.Pre_gate_finite.Val.weights_real _ _ _ _ _ _ _ p1 _) (fun e => Cert.Pre_gate_finite.Val.bias_real _ _ _ _ _ _ _ p2 _)

end Cert.Proof

end
-- ==== Proof.Infinite.lean ====
/-
  WHY THE PRECONDITION IS THERE. On a row of infinite logits the kernel's factor is still 1, while the reference's softmax divides
  zero by zero: with an expert's output of 1 the kernel's result is 1 and the reference's is `−∞` (`infinite_differs`). Such a row
  comes of an infinite token, router's weight or router's bias alone, so each of the three has to be finite.
-/
module

public import proofs.«01_k».proof.Proof.Router

@[expose] public section

noncomputable section

namespace Cert.Router

open Idealize.ShloMosaic
open scoped BigOperators

/-- The maximum of a constant row is the constant. -/
theorem fold_max_const (M : EReal) : Finset.univ.fold max ⊥ (fun _ : Fin 8 => M) = M :=
  fold_max_eq _ M (fun _ => le_rfl) 0 le_rfl

/-- The kernel's factor on a row of infinite logits is 1. -/
theorem kernelScale_top : kernelScale (fun _ => ⊤) = 1 := by
  unfold kernelScale
  rw [fold_max_const, EReal.sub_top, Ideal.exp_bot, add_zero, ← EReal.coe_one, div_real 1 one_ne_zero,
    show (2 : EReal) = ((2 : ℝ) : EReal) from rfl, ← EReal.coe_sub]
  norm_num

/-- The reference's combination on a row of infinite logits, with an expert's output of 1, is `−∞`. -/
theorem combine_top (p q : Fin 8) : combine (kept (fun _ => ⊤) p q) 1 = ⊥ := by
  have hM : Finset.univ.fold max ⊥ (kept (fun _ => ⊤) p q) = ⊤ :=
    fold_max_eq _ _ (fun _ => le_top) p (by simp [kept])
  have hg : Ideal.div 0 0 = ⊥ := by simp [Ideal.div]
  unfold combine
  simp only [hM, max_eq_right bot_le, EReal.sub_top, Ideal.exp_bot, Finset.sum_const_zero, hg, mul_one]
  rw [Fin.sum_univ_succ, EReal.bot_add, EReal.bot_add]

/-- On a row of infinite logits the two programs differ. -/
theorem infinite_differs (p q : Fin 8) : combine (kept (fun _ => ⊤) p q) 1 ≠ kernelScale (fun _ => ⊤) * 1 := by
  rw [combine_top, kernelScale_top, mul_one, ← EReal.coe_one]
  exact EReal.bot_ne_coe 1

end Cert.Router

end
-- ==== Proof.lean ====
/-
  The certificate of the mixture-of-experts kernel: every claim of `Cert.Claim`, each proved in a module of its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_gate_finite
public import proofs.«01_k».proof.Proof.Frames
public import proofs.«01_k».proof.Proof.Algebraic
public import proofs.«01_k».proof.Proof.Infinite

@[expose] public section

noncomputable section

namespace Cert.Proof

open Idealize.ShloMosaic Idealize.SL.Sem

/-- All the claims, given the side conditions that the programs state. -/
theorem claim : Cert.Claim :=
  ⟨Cert.Kernel.Gen.facts, Cert.KernelIdeal.Gen.facts, Cert.ReferenceIdeal.Gen.facts, Cert.Pre_gate_finite.Gen.facts,
    frame_kernel, frame_kernelIdeal, frame_kernelIdeal_pre, frame_referenceIdeal, frame_referenceIdeal_pre, preserves,
    algebraic⟩

end Cert.Proof

end
